-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000 : Shape := ⟨1, ![320000]⟩
abbrev S10000x32 : Shape := ⟨2, ![10000, 32]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S32x9 : Shape := ⟨2, ![32, 9]⟩
abbrev S9 : Shape := ⟨1, ![9]⟩
abbrev S32x128 : Shape := ⟨2, ![32, 128]⟩
abbrev S_ : Shape := ⟨0, ![]⟩
abbrev S1x9 : Shape := ⟨2, ![1, 9]⟩
abbrev S2000x128 : Shape := ⟨2, ![2000, 128]⟩
abbrev S2000x32 : Shape := ⟨2, ![2000, 32]⟩
abbrev S2000x9 : Shape := ⟨2, ![2000, 9]⟩
abbrev S2000x55 : Shape := ⟨2, ![2000, 55]⟩
abbrev S128x9 : Shape := ⟨2, ![128, 9]⟩
abbrev S10000x9 : Shape := ⟨2, ![10000, 9]⟩

abbrev nBuf : Space → Nat
  | .hbm => 81
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x32, .f32⟩
  | .hbm, ⟨4, _⟩ => ⟨S10000x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1x32, .f32⟩
  | .hbm, ⟨11, _⟩ => ⟨S128x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S1x32, .f32⟩
  | .hbm, ⟨16, _⟩ => ⟨S1x32, .f32⟩
  | .hbm, ⟨17, _⟩ => ⟨S128x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S1x32, .f32⟩
  | .hbm, ⟨22, _⟩ => ⟨S128x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S1x32, .f32⟩
  | .hbm, ⟨27, _⟩ => ⟨S1x32, .f32⟩
  | .hbm, ⟨28, _⟩ => ⟨S32x9, .f32⟩
  | .hbm, ⟨29, _⟩ => ⟨S9, .f32⟩
  | .hbm, ⟨30, _⟩ => ⟨S32x128, .i32⟩
  | .hbm, ⟨31, _⟩ => ⟨S32x128, .i32⟩
  | .hbm, ⟨32, _⟩ => ⟨S_, .i32⟩
  | .hbm, ⟨33, _⟩ => ⟨S32x128, .i32⟩
  | .hbm, ⟨34, _⟩ => ⟨S32x128, .i32⟩
  | .hbm, ⟨35, _⟩ => ⟨S32x128, .i1⟩
  | .hbm, ⟨36, _⟩ => ⟨S32x128, .f32⟩
  | .hbm, ⟨37, _⟩ => ⟨S32x128, .i32⟩
  | .hbm, ⟨38, _⟩ => ⟨S32x128, .i32⟩
  | .hbm, ⟨39, _⟩ => ⟨S_, .i32⟩
  | .hbm, ⟨40, _⟩ => ⟨S32x128, .i32⟩
  | .hbm, ⟨41, _⟩ => ⟨S32x128, .i32⟩
  | .hbm, ⟨42, _⟩ => ⟨S32x128, .i1⟩
  | .hbm, ⟨43, _⟩ => ⟨S32x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S1x32, .f32⟩
  | .hbm, ⟨48, _⟩ => ⟨S1x32, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S1x32, .f32⟩
  | .hbm, ⟨53, _⟩ => ⟨S1x32, .f32⟩
  | .hbm, ⟨54, _⟩ => ⟨S1x32, .f32⟩
  | .hbm, ⟨55, _⟩ => ⟨S1x9, .f32⟩
  | .hbm, ⟨56, _⟩ => ⟨S10000x128, .f32⟩
  | .hbm, ⟨57, _⟩ => ⟨S128x32, .i32⟩
  | .hbm, ⟨58, _⟩ => ⟨S128x32, .i32⟩
  | .hbm, ⟨59, _⟩ => ⟨S_, .i32⟩
  | .hbm, ⟨60, _⟩ => ⟨S128x32, .i32⟩
  | .hbm, ⟨61, _⟩ => ⟨S128x32, .i32⟩
  | .hbm, ⟨62, _⟩ => ⟨S128x32, .i1⟩
  | .hbm, ⟨63, _⟩ => ⟨S128x32, .f32⟩
  | .hbm, ⟨64, _⟩ => ⟨S128x32, .i32⟩
  | .hbm, ⟨65, _⟩ => ⟨S128x32, .i32⟩
  | .hbm, ⟨66, _⟩ => ⟨S_, .i32⟩
  | .hbm, ⟨67, _⟩ => ⟨S128x32, .i32⟩
  | .hbm, ⟨68, _⟩ => ⟨S128x32, .i32⟩
  | .hbm, ⟨69, _⟩ => ⟨S128x32, .i1⟩
  | .hbm, ⟨70, _⟩ => ⟨S128x32, .f32⟩
  | .hbm, ⟨71, _⟩ => ⟨S128x9, .i32⟩
  | .hbm, ⟨72, _⟩ => ⟨S128x9, .i32⟩
  | .hbm, ⟨73, _⟩ => ⟨S_, .i32⟩
  | .hbm, ⟨74, _⟩ => ⟨S128x9, .i32⟩
  | .hbm, ⟨75, _⟩ => ⟨S128x9, .i32⟩
  | .hbm, ⟨76, _⟩ => ⟨S128x9, .i1⟩
  | .hbm, ⟨77, _⟩ => ⟨S128x9, .f32⟩
  | .hbm, ⟨78, _⟩ => ⟨S10000x32, .f32⟩
  | .hbm, ⟨79, _⟩ => ⟨S10000x32, .f32⟩
  | .hbm, ⟨80, _⟩ => ⟨S10000x9, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x32, .f32⟩
  | .local _ .vmem, ⟨5, _⟩ => ⟨S32x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S128x32, .f32⟩
  | .local _ .vmem, ⟨11, _⟩ => ⟨S32x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S128x32, .f32⟩
  | .local _ .vmem, ⟨17, _⟩ => ⟨S32x32, .f32⟩
  | .local _ .vmem, ⟨18, _⟩ => ⟨S1x32, .f32⟩
  | .local _ .vmem, ⟨19, _⟩ => ⟨S1x32, .f32⟩
  | .local _ .vmem, ⟨20, _⟩ => ⟨S1x32, .f32⟩
  | .local _ .vmem, ⟨21, _⟩ => ⟨S128x32, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S1x32, .f32⟩
  | .local _ .vmem, ⟨27, _⟩ => ⟨S32x9, .f32⟩
  | .local _ .vmem, ⟨28, _⟩ => ⟨S1x9, .f32⟩
  | .local _ .vmem, ⟨29, _⟩ => ⟨S2000x128, .f32⟩
  | .local _ .vmem, ⟨30, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_1 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_2 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg27_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem27_1 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x32 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x9 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x9 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S2000x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S10000x32 : Shape := ⟨2, ![10000, 32]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S32x9 : Shape := ⟨2, ![32, 9]⟩
abbrev S9 : Shape := ⟨1, ![9]⟩
abbrev S_ : Shape := ⟨0, ![]⟩
abbrev S10000x9 : Shape := ⟨2, ![10000, 9]⟩
abbrev S1x9 : Shape := ⟨2, ![1, 9]⟩

abbrev nBuf : Space → Nat
  | .hbm => 120
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x32, .f32⟩
  | .hbm, ⟨4, _⟩ => ⟨S10000x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1x32, .f32⟩
  | .hbm, ⟨11, _⟩ => ⟨S128x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S1x32, .f32⟩
  | .hbm, ⟨16, _⟩ => ⟨S1x32, .f32⟩
  | .hbm, ⟨17, _⟩ => ⟨S128x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S1x32, .f32⟩
  | .hbm, ⟨22, _⟩ => ⟨S128x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S1x32, .f32⟩
  | .hbm, ⟨27, _⟩ => ⟨S1x32, .f32⟩
  | .hbm, ⟨28, _⟩ => ⟨S32x9, .f32⟩
  | .hbm, ⟨29, _⟩ => ⟨S9, .f32⟩
  | .hbm, ⟨30, _⟩ => ⟨S10000x32, .f32⟩
  | .hbm, ⟨31, _⟩ => ⟨S1x32, .f32⟩
  | .hbm, ⟨32, _⟩ => ⟨S10000x32, .f32⟩
  | .hbm, ⟨33, _⟩ => ⟨S10000x32, .f32⟩
  | .hbm, ⟨34, _⟩ => ⟨S10000x32, .f32⟩
  | .hbm, ⟨35, _⟩ => ⟨S10000x32, .f32⟩
  | .hbm, ⟨36, _⟩ => ⟨S1x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S10000x32, .f32⟩
  | .hbm, ⟨41, _⟩ => ⟨S10000x32, .f32⟩
  | .hbm, ⟨42, _⟩ => ⟨S10000x32, .f32⟩
  | .hbm, ⟨43, _⟩ => ⟨S10000x32, .f32⟩
  | .hbm, ⟨44, _⟩ => ⟨S10000x32, .f32⟩
  | .hbm, ⟨45, _⟩ => ⟨S10000x32, .f32⟩
  | .hbm, ⟨46, _⟩ => ⟨S_, .f32⟩
  | .hbm, ⟨47, _⟩ => ⟨S10000x32, .f32⟩
  | .hbm, ⟨48, _⟩ => ⟨S10000x32, .f32⟩
  | .hbm, ⟨49, _⟩ => ⟨S_, .f32⟩
  | .hbm, ⟨50, _⟩ => ⟨S10000x32, .f32⟩
  | .hbm, ⟨51, _⟩ => ⟨S10000x32, .f32⟩
  | .hbm, ⟨52, _⟩ => ⟨S10000x32, .f32⟩
  | .hbm, ⟨53, _⟩ => ⟨S1x32, .f32⟩
  | .hbm, ⟨54, _⟩ => ⟨S10000x32, .f32⟩
  | .hbm, ⟨55, _⟩ => ⟨S10000x32, .f32⟩
  | .hbm, ⟨56, _⟩ => ⟨S10000x32, .f32⟩
  | .hbm, ⟨57, _⟩ => ⟨S10000x32, .f32⟩
  | .hbm, ⟨58, _⟩ => ⟨S1x32, .f32⟩
  | .hbm, ⟨59, _⟩ => ⟨S10000x32, .f32⟩
  | .hbm, ⟨60, _⟩ => ⟨S10000x32, .f32⟩
  | .hbm, ⟨61, _⟩ => ⟨S10000x32, .f32⟩
  | .hbm, ⟨62, _⟩ => ⟨S10000x32, .f32⟩
  | .hbm, ⟨63, _⟩ => ⟨S10000x32, .f32⟩
  | .hbm, ⟨64, _⟩ => ⟨S10000x32, .f32⟩
  | .hbm, ⟨65, _⟩ => ⟨S10000x32, .f32⟩
  | .hbm, ⟨66, _⟩ => ⟨S10000x32, .f32⟩
  | .hbm, ⟨67, _⟩ => ⟨S10000x32, .f32⟩
  | .hbm, ⟨68, _⟩ => ⟨S_, .f32⟩
  | .hbm, ⟨69, _⟩ => ⟨S10000x32, .f32⟩
  | .hbm, ⟨70, _⟩ => ⟨S10000x32, .f32⟩
  | .hbm, ⟨71, _⟩ => ⟨S_, .f32⟩
  | .hbm, ⟨72, _⟩ => ⟨S10000x32, .f32⟩
  | .hbm, ⟨73, _⟩ => ⟨S10000x32, .f32⟩
  | .hbm, ⟨74, _⟩ => ⟨S10000x32, .f32⟩
  | .hbm, ⟨75, _⟩ => ⟨S1x32, .f32⟩
  | .hbm, ⟨76, _⟩ => ⟨S10000x32, .f32⟩
  | .hbm, ⟨77, _⟩ => ⟨S10000x32, .f32⟩
  | .hbm, ⟨78, _⟩ => ⟨S10000x32, .f32⟩
  | .hbm, ⟨79, _⟩ => ⟨S10000x32, .f32⟩
  | .hbm, ⟨80, _⟩ => ⟨S1x32, .f32⟩
  | .hbm, ⟨81, _⟩ => ⟨S10000x32, .f32⟩
  | .hbm, ⟨82, _⟩ => ⟨S10000x32, .f32⟩
  | .hbm, ⟨83, _⟩ => ⟨S10000x32, .f32⟩
  | .hbm, ⟨84, _⟩ => ⟨S10000x32, .f32⟩
  | .hbm, ⟨85, _⟩ => ⟨S10000x32, .f32⟩
  | .hbm, ⟨86, _⟩ => ⟨S10000x32, .f32⟩
  | .hbm, ⟨87, _⟩ => ⟨S10000x32, .f32⟩
  | .hbm, ⟨88, _⟩ => ⟨S10000x32, .f32⟩
  | .hbm, ⟨89, _⟩ => ⟨S10000x32, .f32⟩
  | .hbm, ⟨90, _⟩ => ⟨S1x32, .f32⟩
  | .hbm, ⟨91, _⟩ => ⟨S10000x32, .f32⟩
  | .hbm, ⟨92, _⟩ => ⟨S10000x32, .f32⟩
  | .hbm, ⟨93, _⟩ => ⟨S10000x32, .f32⟩
  | .hbm, ⟨94, _⟩ => ⟨S10000x32, .f32⟩
  | .hbm, ⟨95, _⟩ => ⟨S1x32, .f32⟩
  | .hbm, ⟨96, _⟩ => ⟨S10000x32, .f32⟩
  | .hbm, ⟨97, _⟩ => ⟨S10000x32, .f32⟩
  | .hbm, ⟨98, _⟩ => ⟨S10000x32, .f32⟩
  | .hbm, ⟨99, _⟩ => ⟨S10000x32, .f32⟩
  | .hbm, ⟨100, _⟩ => ⟨S10000x32, .f32⟩
  | .hbm, ⟨101, _⟩ => ⟨S10000x32, .f32⟩
  | .hbm, ⟨102, _⟩ => ⟨S10000x32, .f32⟩
  | .hbm, ⟨103, _⟩ => ⟨S10000x32, .f32⟩
  | .hbm, ⟨104, _⟩ => ⟨S10000x32, .f32⟩
  | .hbm, ⟨105, _⟩ => ⟨S_, .f32⟩
  | .hbm, ⟨106, _⟩ => ⟨S10000x32, .f32⟩
  | .hbm, ⟨107, _⟩ => ⟨S10000x32, .f32⟩
  | .hbm, ⟨108, _⟩ => ⟨S_, .f32⟩
  | .hbm, ⟨109, _⟩ => ⟨S10000x32, .f32⟩
  | .hbm, ⟨110, _⟩ => ⟨S10000x32, .f32⟩
  | .hbm, ⟨111, _⟩ => ⟨S10000x32, .f32⟩
  | .hbm, ⟨112, _⟩ => ⟨S10000x32, .f32⟩
  | .hbm, ⟨113, _⟩ => ⟨S_, .f32⟩
  | .hbm, ⟨114, _⟩ => ⟨S10000x32, .f32⟩
  | .hbm, ⟨115, _⟩ => ⟨S10000x32, .f32⟩
  | .hbm, ⟨116, _⟩ => ⟨S10000x9, .f32⟩
  | .hbm, ⟨117, _⟩ => ⟨S1x9, .f32⟩
  | .hbm, ⟨118, _⟩ => ⟨S10000x9, .f32⟩
  | .hbm, ⟨119, _⟩ => ⟨S10000x9, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_cst_0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_1 : Ref sig .tc := ⟨.hbm, 68, rfl⟩
abbrev main_v36 : Ref sig .tc := ⟨.hbm, 69, rfl⟩
abbrev main_v37 : Ref sig .tc := ⟨.hbm, 70, rfl⟩
abbrev main_cst_2 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_3 : Ref sig .tc := ⟨.hbm, 105, rfl⟩
abbrev main_v71 : Ref sig .tc := ⟨.hbm, 106, rfl⟩
abbrev main_v72 : Ref sig .tc := ⟨.hbm, 107, rfl⟩
abbrev main_cst_4 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call0_cst : Ref sig .tc := ⟨.hbm, 113, rfl⟩
abbrev main_call0_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proof.Body.lean ====
/-
  THE BODY'S RUN: the kernel's body reads its twenty-seven input blocks, computes, and writes the whole of its output
  block once. `out0_27` is that block as a function of the input blocks; `sound_kernel` is the body's triple.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rectangles the body reads and writes: whole blocks, and the two halves of the state (`r0_1`, `r0_2`). -/

abbrev r0_0 : Rect S2000x128 := Rect.unit (s := S2000x128) ![0, 0] S2000x128.size inb_S2000x128_S2000x128_0_0
abbrev r0_1 : Rect S2000x128 := Rect.unit (s := S2000x128) ![0, 0] S2000x32.size inb_S2000x128_S2000x32_0_0
abbrev r0_2 : Rect S2000x128 := Rect.unit (s := S2000x128) ![0, 32] S2000x32.size inb_S2000x128_S2000x32_0_32
abbrev r0_3 : Rect S1x32 := Rect.unit (s := S1x32) ![0, 0] S1x32.size inb_S1x32_S1x32_0_0
abbrev r0_4 : Rect S128x32 := Rect.unit (s := S128x32) ![0, 0] S128x32.size inb_S128x32_S128x32_0_0
abbrev r0_5 : Rect S32x32 := Rect.unit (s := S32x32) ![0, 0] S32x32.size inb_S32x32_S32x32_0_0
abbrev r0_6 : Rect S32x9 := Rect.unit (s := S32x9) ![0, 0] S32x9.size inb_S32x9_S32x9_0_0
abbrev r0_7 : Rect S1x9 := Rect.unit (s := S1x9) ![0, 0] S1x9.size inb_S1x9_S1x9_0_0

/-- What the body leaves in its output block, from the input blocks: one store over the whole block. -/
def out0_27 (x0 : Vec F S2000x128 .f32) (x1 : Vec F S2000x128 .f32) (x2 : Vec F S128x32 .f32) (x3 : Vec F S32x32 .f32) (x4 : Vec F S1x32 .f32) (x5 : Vec F S1x32 .f32) (x6 : Vec F S1x32 .f32) (x7 : Vec F S1x32 .f32) (x8 : Vec F S128x32 .f32) (x9 : Vec F S32x32 .f32) (x10 : Vec F S1x32 .f32) (x11 : Vec F S1x32 .f32) (x12 : Vec F S1x32 .f32) (x13 : Vec F S1x32 .f32) (x14 : Vec F S128x32 .f32) (x15 : Vec F S32x32 .f32) (x16 : Vec F S1x32 .f32) (x17 : Vec F S1x32 .f32) (x18 : Vec F S1x32 .f32) (x19 : Vec F S128x32 .f32) (x20 : Vec F S32x32 .f32) (x21 : Vec F S1x32 .f32) (x22 : Vec F S1x32 .f32) (x23 : Vec F S1x32 .f32) (x24 : Vec F S1x32 .f32) (x25 : Vec F S32x9 .f32) (x26 : Vec F S1x9 .f32) : Vec F S2000x128 .f32 :=
  View.canon [⟨r0_0, k0_pay1 (View.ld x0 r0_0) (k0_pay2 (View.ld x1 r0_1)) (k0_pay8 (k0_pay7 (View.ld x22 r0_3) (View.ld x23 r0_3)) (View.ld x24 r0_3)) (k0_pay9 (View.ld x0 r0_0) (k0_pay2 (View.ld x1 r0_1)) (k0_pay3 (View.ld x1 r0_2)) (k0_pay5 (View.ld x11 r0_3) (View.ld x12 r0_3) (View.ld x13 r0_3)) (View.ld x8 r0_4) (View.ld x9 r0_5) (View.ld x10 r0_3)) (k0_pay10 (View.ld x0 r0_0) (k0_pay2 (View.ld x1 r0_1)) (k0_pay3 (View.ld x1 r0_2)) (k0_pay4 (View.ld x5 r0_3) (View.ld x6 r0_3) (View.ld x7 r0_3)) (k0_pay6 (View.ld x16 r0_3) (View.ld x17 r0_3) (View.ld x18 r0_3)) (View.ld x2 r0_4) (View.ld x3 r0_5) (View.ld x4 r0_3) (View.ld x14 r0_4) (View.ld x15 r0_5)) (View.ld x19 r0_4) (View.ld x20 r0_5) (View.ld x21 r0_3) (View.ld x25 r0_6) (View.ld x26 r0_7)⟩]

/-- That one store covers the block. -/
theorem cover0_27 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in
/-- The body, owning its input blocks at given contents and its output block at any, ends owning the inputs unchanged and
    the output at `out0_27` of them. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S32x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S128x32 .f32) (harg20 : arg20.IsWhole) (arg21 : Memref sig .tc .vmem S32x32 .f32) (harg21 : arg21.IsWhole) (arg22 : Memref sig .tc .vmem S1x32 .f32) (harg22 : arg22.IsWhole) (arg23 : Memref sig .tc .vmem S1x32 .f32) (harg23 : arg23.IsWhole) (arg24 : Memref sig .tc .vmem S1x32 .f32) (harg24 : arg24.IsWhole) (arg25 : Memref sig .tc .vmem S1x32 .f32) (harg25 : arg25.IsWhole) (arg26 : Memref sig .tc .vmem S32x9 .f32) (harg26 : arg26.IsWhole) (arg27 : Memref sig .tc .vmem S1x9 .f32) (harg27 : arg27.IsWhole) (arg28 : Memref sig .tc .vmem S2000x128 .f32) (harg28 : arg28.IsWhole)
    (x0 : Vec F S2000x128 .f32) (x1 : Vec F S2000x128 .f32) (x2 : Vec F S128x32 .f32) (x3 : Vec F S32x32 .f32) (x4 : Vec F S1x32 .f32) (x5 : Vec F S1x32 .f32) (x6 : Vec F S1x32 .f32) (x7 : Vec F S1x32 .f32) (x8 : Vec F S128x32 .f32) (x9 : Vec F S32x32 .f32) (x10 : Vec F S1x32 .f32) (x11 : Vec F S1x32 .f32) (x12 : Vec F S1x32 .f32) (x13 : Vec F S1x32 .f32) (x14 : Vec F S128x32 .f32) (x15 : Vec F S32x32 .f32) (x16 : Vec F S1x32 .f32) (x17 : Vec F S1x32 .f32) (x18 : Vec F S1x32 .f32) (x19 : Vec F S128x32 .f32) (x20 : Vec F S32x32 .f32) (x21 : Vec F S1x32 .f32) (x22 : Vec F S1x32 .f32) (x23 : Vec F S1x32 .f32) (x24 : Vec F S1x32 .f32) (x25 : Vec F S32x9 .f32) (x26 : Vec F S1x9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__cell_kernel_eq_skeleton]; unfold cc0__cell_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]; · iexists f0; isplitr; (ipureintro; rfl); iexact H0
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists f11; isplitr; (ipureintro; rfl); iexact H11
  isplitl [H12]; · iexists f12; isplitr; (ipureintro; rfl); iexact H12
  isplitl [H13]; · iexists f13; isplitr; (ipureintro; rfl); iexact H13
  isplitl [H14]; · iexists f14; isplitr; (ipureintro; rfl); iexact H14
  isplitl [H15]; · iexists f15; isplitr; (ipureintro; rfl); iexact H15
  isplitl [H16]; · iexists f16; isplitr; (ipureintro; rfl); iexact H16
  isplitl [H17]; · iexists f17; isplitr; (ipureintro; rfl); iexact H17
  isplitl [H18]; · iexists f18; isplitr; (ipureintro; rfl); iexact H18
  isplitl [H19]; · iexists f19; isplitr; (ipureintro; rfl); iexact H19
  isplitl [H20]; · iexists f20; isplitr; (ipureintro; rfl); iexact H20
  isplitl [H21]; · iexists f21; isplitr; (ipureintro; rfl); iexact H21
  isplitl [H22]; · iexists f22; isplitr; (ipureintro; rfl); iexact H22
  isplitl [H23]; · iexists f23; isplitr; (ipureintro; rfl); iexact H23
  isplitl [H24]; · iexists f24; isplitr; (ipureintro; rfl); iexact H24
  isplitl [H25]; · iexists f25; isplitr; (ipureintro; rfl); iexact H25
  isplitl [H26]; · iexists f26; isplitr; (ipureintro; rfl); iexact H26
  iexists _; isplitr
  swap; · iexact H27
  ipureintro
  refine (View.read_writes_eq_canon _ _ _ (cover0_27 _)).trans ?_
  rfl

end Cert.KernelIdeal.Hand

end
-- ==== Proof.Frame.lean ====
/-
  THE KERNEL'S RUN: the host lines before the pipeline, the pipeline over its five blocks of rows, the host lines after it.
  Every argument array ends as it was launched, and the run ends with the pipeline's arrays and the other buffers at
  the contents the pipeline's data (`dats`) and the host lines determine.
-/
module

public import proofs.«01_k».proof.Proof.Body
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the pipeline -/

/-- A device's buffers when the pipeline starts: after the host lines before it. -/
abbrev V0 (c : Dev nD) : Valuation τ sig (Elt F) := StableHlo.after (List.flatten [hostOps0]) (fun b => m (c, b))
/-- The same, buffer by buffer. -/
abbrev V (c : Dev nD) (b : Ref sig .tc) : Buf (Elt F) ((c : Thread nD τ).loc b) := V0 m c (Proc.devRef .tc b)

/-- The host lines before the pipeline allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- The program is the host lines, the pipeline, the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the host lines write, before and after the pipeline. -/
def hostWritten : List (Ref sig .tc) :=
  [main_v0, main_v1, main_c, main_v2, main_v3, main_v4, main_v5, main_v6, main_v7, main_c_0, main_v8, main_v9, main_v10, main_v11,
   main_v12, main_v13, main_v14, main_v15, main_v16, main_v17, main_v18, main_v19, main_v20, main_v21, main_v22, main_v23,
   main_v25, main_v26, main_c_1, main_v27, main_v28, main_v29, main_v30, main_v31, main_v32, main_c_2, main_v33, main_v34, main_v35,
   main_v36, main_v37, main_v38, main_c_3, main_v39, main_v40, main_v41, main_v42, main_v43, main_v44, main_v45]

/-- The host lines before the pipeline write no other buffer. -/
theorem before_writes (b : Ref sig .tc) (h : b ∉ hostWritten) :
    ∀ op ∈ (List.flatten [hostOps0] : List (HloOp τ sig (Elt F))), Proc.devRef .tc b ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by rintro rfl; exact h (by decide)))

/-- Nor do the host lines after it. -/
theorem after_writes (b : Ref sig .tc) (h : b ∉ hostWritten) :
    ∀ op ∈ (List.flatten [hostOps1] : List (HloOp τ sig (Elt F))), Proc.devRef .tc b ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by rintro rfl; exact h (by decide)))

/-- The pipeline finds as launched every buffer no host line writes. -/
theorem V_kept (c : Dev nD) (b : Ref sig .tc) (h : b ∉ hostWritten) : V m c b = m ((c : Thread nD τ).loc b) :=
  StableHlo.after_of_forall_not_mem (b := Proc.devRef .tc b) _ _ (before_writes b h)

/-- The host lines after the pipeline touch its arrays and buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 1344000 in
/-- They write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- A buffer that is no array of the pipeline and that no host line writes ends as launched. -/
theorem tail_kept (dats : (p : Fin _) → (c : Dev nD) → Dat τ (Elt F) Unit ℕ (UR sig nD τ) ℕ (cfgs p) c) (c : Dev nD)
    (b : Ref sig .tc) (h : b ∉ hostWritten) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (after_writes b h),
    Pipeline.withArrays_of_ne _ c (V0 m c) _ b hw]
  exact V_kept m c b h

/-! ## The pipeline's data -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's data on a device: the arrays as found; after the body, each input's buffer at its block and the
    output's at `out0_27` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 28, h⟩ => absurd h (Nat.not_lt.2 (Nat.le_add_left _ _))
  Φ _ := Pipeline.ΦA spec0 c
  q _ := fullShare
  owed _ := 0

/-- The data's arrays are the contents the pipeline finds. -/
theorem A_eq (c : Dev nD) (w : Fin cfg0.W) : (dats m 0 c).A w = V m c (Pipeline.arrRef spec0 w) := by
  dsimp only [dats]

/-- The body leaves every input block in place. -/
theorem after_in (c : Dev nD) (t : Fin cfg0.N) :
    (dats m 0 c).after 0 t = iblk m c 0 t
      ∧ (dats m 0 c).after 1 t = iblk m c 1 t
      ∧ (dats m 0 c).after 2 t = iblk m c 2 t
      ∧ (dats m 0 c).after 3 t = iblk m c 3 t
      ∧ (dats m 0 c).after 4 t = iblk m c 4 t
      ∧ (dats m 0 c).after 5 t = iblk m c 5 t
      ∧ (dats m 0 c).after 6 t = iblk m c 6 t
      ∧ (dats m 0 c).after 7 t = iblk m c 7 t
      ∧ (dats m 0 c).after 8 t = iblk m c 8 t
      ∧ (dats m 0 c).after 9 t = iblk m c 9 t
      ∧ (dats m 0 c).after 10 t = iblk m c 10 t
      ∧ (dats m 0 c).after 11 t = iblk m c 11 t
      ∧ (dats m 0 c).after 12 t = iblk m c 12 t
      ∧ (dats m 0 c).after 13 t = iblk m c 13 t
      ∧ (dats m 0 c).after 14 t = iblk m c 14 t
      ∧ (dats m 0 c).after 15 t = iblk m c 15 t
      ∧ (dats m 0 c).after 16 t = iblk m c 16 t
      ∧ (dats m 0 c).after 17 t = iblk m c 17 t
      ∧ (dats m 0 c).after 18 t = iblk m c 18 t
      ∧ (dats m 0 c).after 19 t = iblk m c 19 t
      ∧ (dats m 0 c).after 20 t = iblk m c 20 t
      ∧ (dats m 0 c).after 21 t = iblk m c 21 t
      ∧ (dats m 0 c).after 22 t = iblk m c 22 t
      ∧ (dats m 0 c).after 23 t = iblk m c 23 t
      ∧ (dats m 0 c).after 24 t = iblk m c 24 t
      ∧ (dats m 0 c).after 25 t = iblk m c 25 t
      ∧ (dats m 0 c).after 26 t = iblk m c 26 t := by
  repeat' apply And.intro
  all_goals dsimp only [dats]

/-- The body's output. -/
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by
  dsimp only [dats]

/-- Every window but the last is an input. -/
theorem isOut_in : ∀ w : Fin cfg0.W, w ≠ 27 → (cfg0.win w).isOut = false := by decide

set_option maxHeartbeats 4000000 in
/-- An input's staging buffer holds its block at every point. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t)
      ∧ (∀ d, (dats m 0 c).before 14 t d = iblk m c 14 t)
      ∧ (∀ d, (dats m 0 c).before 15 t d = iblk m c 15 t)
      ∧ (∀ d, (dats m 0 c).before 16 t d = iblk m c 16 t)
      ∧ (∀ d, (dats m 0 c).before 17 t d = iblk m c 17 t)
      ∧ (∀ d, (dats m 0 c).before 18 t d = iblk m c 18 t)
      ∧ (∀ d, (dats m 0 c).before 19 t d = iblk m c 19 t)
      ∧ (∀ d, (dats m 0 c).before 20 t d = iblk m c 20 t)
      ∧ (∀ d, (dats m 0 c).before 21 t d = iblk m c 21 t)
      ∧ (∀ d, (dats m 0 c).before 22 t d = iblk m c 22 t)
      ∧ (∀ d, (dats m 0 c).before 23 t d = iblk m c 23 t)
      ∧ (∀ d, (dats m 0 c).before 24 t d = iblk m c 24 t)
      ∧ (∀ d, (dats m 0 c).before 25 t d = iblk m c 25 t)
      ∧ (∀ d, (dats m 0 c).before 26 t d = iblk m c 26 t) := by
  repeat' apply And.intro
  all_goals
    intro d
    exact ((dats m 0 c).before_in_eq_fetched _ rfl (fun _ => rfl) (fun _ _ _ => rfl)
      (fun t => by simp only [after_in m c t]; unfold Dat.blockOf iblk; rw [A_eq]; try rfl) t d).trans
      (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in m c t]
  rw [show (dats m 0 c).Φ t.succ = (dats m 0 c).Φ t.castSucc from rfl,
    show (dats m 0 c).owesAt () t.succ = (dats m 0 c).owesAt () t.castSucc from rfl]
  simp only [after_in m c t, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  iframe
  isplitl [H27]; · iexists _; iexact H27
  iintro Hout
  iframe

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- A buffer in the device's main memory that no host line writes and that is not the pipeline's output ends as launched. -/
theorem kept (r) (h : Pipeline.FramePost cfgs (dats m) 0 (Pipeline.afterTail₀ cfgs (dats m) 0 (V0 m) [hostOps1]) r) (c : Dev nD)
    (b : Ref sig .tc) (hb : b ∉ hostWritten) (ho : b ≠ main_v24) (hs : b.isScoped = false) :
    r.2.mem ((c.tc : Thread nD τ).loc b) = m ((c.tc : Thread nD τ).loc b) := by
  by_cases hw : ∃ w, Pipeline.arrRef spec0 w = b
  · obtain ⟨w, rfl⟩ := hw
    have hi : (cfg0.win w).isOut = false := isOut_in w (by rintro rfl; exact ho rfl)
    exact ((h c).1 w).trans (((dats m 0 c).arrAt_in w hi _).trans ((A_eq m c w).trans (V_kept m c _ hb)))
  · exact ((h c).2 b (Pipeline.mem_restRefs_of b hs (fun w e => hw ⟨w, e⟩))).trans (tail_kept m (dats m) c b hb (fun w e => hw ⟨w, e⟩))

/-- Every execution terminates with every argument array as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) := by
  refine (θ_run defs _ _).mono (fun r h => ⟨fun c => ?_, h.2⟩) (run_main_quiescent m ρ)
  repeat' apply And.intro
  all_goals exact kept m r h.1 c _ (by decide) (by decide) (by decide)

end Cert.KernelIdeal.Hand

end
-- ==== Proof.KernelFrame.lean ====
/-
  THE COMPILED KERNEL is, name for name, the program Frame.lean runs: the two are one program by definition, so its
  frame is that program's, at the machine's numbers.
-/
module

public import proofs.«01_k».proof.Proof.Frame
public import proofs.«01_k».proof.Proof.Gen.Kernel
public import proofs.«01_k».proof.Defs

@[expose] public section

set_option maxRecDepth 65536

open Idealize.ShloMosaic Idealize.ShloMosaic.TcCoe Idealize.SL.Sem

namespace Cert.Kernel.Hand

set_option maxHeartbeats 4000000 in
/-- The two programs are one. -/
theorem main_same : Cert.Kernel.main (F := Bits) = Cert.KernelIdeal.main (F := Bits) := rfl

set_option maxHeartbeats 2000000 in
open Cert.Kernel in
/-- The bodies of their launches are one, whatever buffers they are given. -/
theorem body_same {F : FTy → Type} [FloatOps F] (i : grid0.Coords) (arg1 : Memref sig .tc .vmem S2000x128 .f32) (harg1 : arg1.IsWhole) (arg2 : Memref sig .tc .vmem S2000x128 .f32) (harg2 : arg2.IsWhole) (arg3 : Memref sig .tc .vmem S128x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S32x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S128x32 .f32) (harg20 : arg20.IsWhole) (arg21 : Memref sig .tc .vmem S32x32 .f32) (harg21 : arg21.IsWhole) (arg22 : Memref sig .tc .vmem S1x32 .f32) (harg22 : arg22.IsWhole) (arg23 : Memref sig .tc .vmem S1x32 .f32) (harg23 : arg23.IsWhole) (arg24 : Memref sig .tc .vmem S1x32 .f32) (harg24 : arg24.IsWhole) (arg25 : Memref sig .tc .vmem S1x32 .f32) (harg25 : arg25.IsWhole) (arg26 : Memref sig .tc .vmem S32x9 .f32) (harg26 : arg26.IsWhole) (arg27 : Memref sig .tc .vmem S1x9 .f32) (harg27 : arg27.IsWhole) (arg28 : Memref sig .tc .vmem S2000x128 .f32) (harg28 : arg28.IsWhole) : Cert.Kernel.cc0__cell_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 = Cert.KernelIdeal.cc0__cell_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 := rfl
set_option maxHeartbeats 2000000 in
/-- So are their tables of bodies: the one label's entry on the TensorCore, nothing of their own elsewhere. -/
theorem bodies_same {F : FTy → Type} [FloatOps F] : Cert.Kernel.defs₀ (F := F) = Cert.KernelIdeal.defs₀ (F := F) := by
  funext pr l a
  match pr, l, a with
  | .tc, ⟨0, _⟩, (t, s) => exact body_same ..
  | .scScalar _, _, _ => rfl
  | .scVector _ _, _, _ => rfl

set_option maxHeartbeats 2000000 in
/-- So are their tables of called functions, the pipelines of both being one. -/
theorem defs_same {F : FTy → Type} [FloatOps F] : Cert.Kernel.defs (F := F) = Cert.KernelIdeal.defs (F := F) :=
  congrArg (Pipeline.defs Cert.Kernel.pcfgs) bodies_same

set_option maxHeartbeats 4000000 in
/-- Every execution of the compiled kernel terminates, leaves every argument array as launched and every semaphore at zero. -/
theorem frame : Cert.quiescent_Kernel (hKernel := Cert.Kernel.Gen.facts) := fun m g _ => by
  rw [main_same, defs_same]
  exact Cert.KernelIdeal.Hand.frame (F := Bits) m g

end Cert.Kernel.Hand
-- ==== Proof.Cell.lean ====
/-
  THE CELL, in plain mathematics over the extended reals: one step of a peephole LSTM on ONE row (a row of inputs, a row
  of hidden state, a row of cell state), and the linear read-out behind it. Neither program is mentioned here: the
  reference's module and the kernel's modules each show that their program computes these functions.
-/
module

public import Idealize.ShloMosaic.Lib.Pointwise

@[expose] public section

noncomputable section

open Idealize.ShloMosaic

namespace Cert.Cell

/-- The logistic function as it is spelt out: `1 / (1 + exp (-x))`. -/
def sigma (x : EReal) : EReal := Ideal.div 1 (1 + Ideal.exp (-x))

/-- The parameters of one gate: a matrix and a bias for the inputs, the same for the hidden state, and a bias of its own. -/
structure Gate where
  /-- the matrix on the inputs -/
  wx : Fin 128 → Fin 32 → EReal
  /-- the bias that goes with it -/
  bx : Fin 32 → EReal
  /-- the matrix on the hidden state -/
  wh : Fin 32 → Fin 32 → EReal
  /-- the bias that goes with it -/
  bh : Fin 32 → EReal
  /-- the gate's own bias -/
  b : Fin 32 → EReal

/-- What a gate adds up at unit `j`, all but the peephole and the gate's own bias: `x · Wx + bx + h · Wh + bh`. -/
def Gate.lin (g : Gate) (x : Fin 128 → EReal) (h : Fin 32 → EReal) (j : Fin 32) : EReal :=
  ∑ k, x k * g.wx k j + g.bx j + ∑ k, h k * g.wh k j + g.bh j

/-- The parameters of the whole cell: the input, forget, candidate and output gates, the peepholes of three of them, and
    the read-out. -/
structure Weights where
  /-- the input gate -/
  i : Gate
  /-- the forget gate -/
  f : Gate
  /-- the candidate -/
  t : Gate
  /-- the output gate -/
  o : Gate
  /-- the input gate's peephole -/
  pi : Fin 32 → EReal
  /-- the forget gate's peephole -/
  pf : Fin 32 → EReal
  /-- the output gate's peephole -/
  po : Fin 32 → EReal
  /-- the read-out's matrix -/
  wl : Fin 32 → Fin 9 → EReal
  /-- the read-out's bias -/
  bl : Fin 9 → EReal

variable (w : Weights) (x : Fin 128 → EReal) (h c : Fin 32 → EReal)

/-- The input gate at unit `j`. -/
def inputGate (j : Fin 32) : EReal := sigma (w.i.lin x h j + w.pi j * c j + w.i.b j)

/-- The forget gate at unit `j`. -/
def forgetGate (j : Fin 32) : EReal := sigma (w.f.lin x h j + w.pf j * c j + w.f.b j)

/-- The candidate at unit `j`: a gate with no peephole, under `tanh`. -/
def candidate (j : Fin 32) : EReal := Ideal.tanh (w.t.lin x h j + w.t.b j)

/-- The new cell state at unit `j`: the old one through the forget gate, and the candidate through the input gate. -/
def newCell (j : Fin 32) : EReal := forgetGate w x h c j * c j + inputGate w x h c j * candidate w x h j

/-- The output gate at unit `j`: its peephole looks at the NEW cell state. -/
def outputGate (j : Fin 32) : EReal := sigma (w.o.lin x h j + w.po j * newCell w x h c j + w.o.b j)

/-- The new hidden state at unit `j`. -/
def newHidden (j : Fin 32) : EReal := outputGate w x h c j * Ideal.tanh (newCell w x h c j)

/-- The read-out at class `j`: the positive part of the new hidden state through a linear layer. -/
def readOut (j : Fin 9) : EReal := ∑ k, max (newHidden w x h c k) 0 * w.wl k j + w.bl j

/-- The same sum as a gate's, with the biases gathered and added last: addition of extended reals is commutative and
    associative, so the order does not matter. With a peephole term `p`. -/
theorem Gate.lin_gathered (g : Gate) (j : Fin 32) (p : EReal) :
    ∑ k, x k * g.wx k j + ∑ k, h k * g.wh k j + p + (g.bx j + g.bh j + g.b j) = g.lin x h j + p + g.b j := by
  unfold Gate.lin
  ac_rfl

/-- The same without a peephole term. -/
theorem Gate.lin_gathered' (g : Gate) (j : Fin 32) :
    ∑ k, x k * g.wx k j + ∑ k, h k * g.wh k j + (g.bx j + g.bh j + g.b j) = g.lin x h j + g.b j := by
  unfold Gate.lin
  ac_rfl

/-- The cell's parameters out of the twenty-five arrays that hold them: matrices as they are, biases of one axis as they
    are, peepholes and the gates' own biases out of their single row. -/
def Weights.ofArrays
    (wxi : FVec Ideal ⟨2, ![128, 32]⟩ .f32) (bxi : FVec Ideal ⟨1, ![32]⟩ .f32) (whi : FVec Ideal ⟨2, ![32, 32]⟩ .f32)
    (bhi : FVec Ideal ⟨1, ![32]⟩ .f32) (pi bi : FVec Ideal ⟨2, ![1, 32]⟩ .f32)
    (wxf : FVec Ideal ⟨2, ![128, 32]⟩ .f32) (bxf : FVec Ideal ⟨1, ![32]⟩ .f32) (whf : FVec Ideal ⟨2, ![32, 32]⟩ .f32)
    (bhf : FVec Ideal ⟨1, ![32]⟩ .f32) (pf bf : FVec Ideal ⟨2, ![1, 32]⟩ .f32)
    (wxt : FVec Ideal ⟨2, ![128, 32]⟩ .f32) (bxt : FVec Ideal ⟨1, ![32]⟩ .f32) (wht : FVec Ideal ⟨2, ![32, 32]⟩ .f32)
    (bht : FVec Ideal ⟨1, ![32]⟩ .f32) (bt : FVec Ideal ⟨2, ![1, 32]⟩ .f32)
    (wxo : FVec Ideal ⟨2, ![128, 32]⟩ .f32) (bxo : FVec Ideal ⟨1, ![32]⟩ .f32) (who : FVec Ideal ⟨2, ![32, 32]⟩ .f32)
    (bho : FVec Ideal ⟨1, ![32]⟩ .f32) (po bo : FVec Ideal ⟨2, ![1, 32]⟩ .f32)
    (wl : FVec Ideal ⟨2, ![32, 9]⟩ .f32) (bl : FVec Ideal ⟨1, ![9]⟩ .f32) : Weights where
  i := ⟨fun k j => wxi (ix2 k j), fun j => bxi (ix1 j), fun k j => whi (ix2 k j), fun j => bhi (ix1 j), fun j => bi (ix2 0 j)⟩
  f := ⟨fun k j => wxf (ix2 k j), fun j => bxf (ix1 j), fun k j => whf (ix2 k j), fun j => bhf (ix1 j), fun j => bf (ix2 0 j)⟩
  t := ⟨fun k j => wxt (ix2 k j), fun j => bxt (ix1 j), fun k j => wht (ix2 k j), fun j => bht (ix1 j), fun j => bt (ix2 0 j)⟩
  o := ⟨fun k j => wxo (ix2 k j), fun j => bxo (ix1 j), fun k j => who (ix2 k j), fun j => bho (ix1 j), fun j => bo (ix2 0 j)⟩
  pi := fun j => pi (ix2 0 j)
  pf := fun j => pf (ix2 0 j)
  po := fun j => po (ix2 0 j)
  wl := fun k j => wl (ix2 k j)
  bl := fun j => bl (ix1 j)

/-- Row `r` of an array of rows. -/
def row {n k : ℕ} (X : FVec Ideal ⟨2, ![n, k]⟩ .f32) (r : Fin n) : Fin k → EReal := fun j => X (ix2 r j)

end Cert.Cell

end
-- ==== Proof.Block.lean ====
/-
  WHAT ONE BLOCK COMPUTES: the kernel's body, on a block of two thousand rows, leaves in every row of its packed result
  the new hidden state (columns 0 to 31), the new cell state (32 to 63), the read-out (64 to 72) and zeros behind them,
  each the cell (Cell.lean) of that row.
-/
module

public import proofs.«01_k».proof.Proof.Body
public import proofs.«01_k».proof.Proof.Cell
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen

/-- A packed row: hidden state, cell state, read-out, zeros. -/
def packed (w : Cell.Weights) (x : Fin 128 → EReal) (h c : Fin 32 → EReal) (j : Fin 128) : EReal :=
  if hj : (j : ℕ) < 32 then Cell.newHidden w x h c ⟨j, hj⟩
  else if hj : (j : ℕ) - 32 < 32 then Cell.newCell w x h c ⟨j - 32, hj⟩
  else if hj : (j : ℕ) - 32 - 32 < 9 then Cell.readOut w x h c ⟨j - 32 - 32, hj⟩
  else 0

/-- The cell's parameters as the body's input blocks hold them: every vector is a block of a single row. -/
def blockWeights (x2 : Vec Ideal S128x32 .f32) (x3 : Vec Ideal S32x32 .f32) (x4 : Vec Ideal S1x32 .f32) (x5 : Vec Ideal S1x32 .f32) (x6 : Vec Ideal S1x32 .f32) (x7 : Vec Ideal S1x32 .f32) (x8 : Vec Ideal S128x32 .f32) (x9 : Vec Ideal S32x32 .f32) (x10 : Vec Ideal S1x32 .f32) (x11 : Vec Ideal S1x32 .f32) (x12 : Vec Ideal S1x32 .f32) (x13 : Vec Ideal S1x32 .f32) (x14 : Vec Ideal S128x32 .f32) (x15 : Vec Ideal S32x32 .f32) (x16 : Vec Ideal S1x32 .f32) (x17 : Vec Ideal S1x32 .f32) (x18 : Vec Ideal S1x32 .f32) (x19 : Vec Ideal S128x32 .f32) (x20 : Vec Ideal S32x32 .f32) (x21 : Vec Ideal S1x32 .f32) (x22 : Vec Ideal S1x32 .f32) (x23 : Vec Ideal S1x32 .f32) (x24 : Vec Ideal S1x32 .f32) (x25 : Vec Ideal S32x9 .f32) (x26 : Vec Ideal S1x9 .f32) : Cell.Weights where
  i := ⟨fun k j => x2 (ix2 k j), fun j => x5 (ix2 0 j), fun k j => x3 (ix2 k j), fun j => x6 (ix2 0 j), fun j => x7 (ix2 0 j)⟩
  f := ⟨fun k j => x8 (ix2 k j), fun j => x11 (ix2 0 j), fun k j => x9 (ix2 k j), fun j => x12 (ix2 0 j), fun j => x13 (ix2 0 j)⟩
  t := ⟨fun k j => x14 (ix2 k j), fun j => x16 (ix2 0 j), fun k j => x15 (ix2 k j), fun j => x17 (ix2 0 j), fun j => x18 (ix2 0 j)⟩
  o := ⟨fun k j => x19 (ix2 k j), fun j => x22 (ix2 0 j), fun k j => x20 (ix2 k j), fun j => x23 (ix2 0 j), fun j => x24 (ix2 0 j)⟩
  pi := fun j => x4 (ix2 0 j)
  pf := fun j => x10 (ix2 0 j)
  po := fun j => x21 (ix2 0 j)
  wl := fun k j => x25 (ix2 k j)
  bl := fun j => x26 (ix2 0 j)

/-- The hidden state in a row of the second input block: its columns 0 to 31. -/
def blockHidden (x1 : Vec Ideal S2000x128 .f32) (r : Fin 2000) (j : Fin 32) : EReal := x1 (ix2 r ⟨j, by omega⟩)

/-- The cell state in a row of the second input block: its columns 32 to 63. -/
def blockCell (x1 : Vec Ideal S2000x128 .f32) (r : Fin 2000) (j : Fin 32) : EReal := x1 (ix2 r ⟨32 + j, by omega⟩)

section
variable (x0 : Vec Ideal S2000x128 .f32) (x1 : Vec Ideal S2000x128 .f32) (x2 : Vec Ideal S128x32 .f32) (x3 : Vec Ideal S32x32 .f32) (x4 : Vec Ideal S1x32 .f32) (x5 : Vec Ideal S1x32 .f32) (x6 : Vec Ideal S1x32 .f32) (x7 : Vec Ideal S1x32 .f32) (x8 : Vec Ideal S128x32 .f32) (x9 : Vec Ideal S32x32 .f32) (x10 : Vec Ideal S1x32 .f32) (x11 : Vec Ideal S1x32 .f32) (x12 : Vec Ideal S1x32 .f32) (x13 : Vec Ideal S1x32 .f32) (x14 : Vec Ideal S128x32 .f32) (x15 : Vec Ideal S32x32 .f32) (x16 : Vec Ideal S1x32 .f32) (x17 : Vec Ideal S1x32 .f32) (x18 : Vec Ideal S1x32 .f32) (x19 : Vec Ideal S128x32 .f32) (x20 : Vec Ideal S32x32 .f32) (x21 : Vec Ideal S1x32 .f32) (x22 : Vec Ideal S1x32 .f32) (x23 : Vec Ideal S1x32 .f32) (x24 : Vec Ideal S1x32 .f32) (x25 : Vec Ideal S32x9 .f32) (x26 : Vec Ideal S1x9 .f32)

/-- Each entry of the output block is the packed cell of that row, from the row of inputs and state. -/
theorem out_apply (r : Fin 2000) (j : Fin 128) :
    out0_27 x0 x1 x2 x3 x4 x5 x6 x7 x8 x9 x10 x11 x12 x13 x14 x15 x16 x17 x18 x19 x20 x21 x22 x23 x24 x25 x26 (ix2 r j)
      = packed (blockWeights x2 x3 x4 x5 x6 x7 x8 x9 x10 x11 x12 x13 x14 x15 x16 x17 x18 x19 x20 x21 x22 x23 x24 x25 x26) (fun k => x0 (ix2 r k)) (blockHidden x1 r) (blockCell x1 r) j := by
  unfold out0_27
  frame_out
  unfold_payloads
  pointwise
  simp only [packed, Cell.readOut, Cell.newHidden, Cell.outputGate, Cell.newCell, Cell.inputGate, Cell.forgetGate,
    Cell.candidate, ← Cell.Gate.lin_gathered, ← Cell.Gate.lin_gathered']
  rfl

end

end Cert.KernelIdeal.Hand

end
-- ==== Proof.Eye.lean ====
/-
  SELECTION MATRICES: the host builds zero-one matrices by comparing a shifted row number with a column number, and
  multiplies by them to place or to pick columns. Here is what a product with such a matrix is, entry by entry.
-/
module

public import Idealize.ShloMosaic.Lib.Pointwise

@[expose] public section

noncomputable section

open Idealize.ShloMosaic

namespace Cert.Eye

/-- An entry of a selection matrix with the offset `o`: one where row plus offset equals column (as 32-bit words),
    zero elsewhere. -/
theorem entry (x o j : ℕ) :
    FloatOps.uitofp (F := Ideal) FTy.f32 (IntOp.cmpi .eq (IntOp.addi (BitVec.ofNat 32 x) (BitVec.ofNat 32 o)) (BitVec.ofNat 32 j))
      = if (x + o) % 2 ^ 32 = j % 2 ^ 32 then (1 : EReal) else 0 := by
  have e : (IntOp.addi (BitVec.ofNat 32 x) (BitVec.ofNat 32 o) = BitVec.ofNat 32 j) ↔ (x + o) % 2 ^ 32 = j % 2 ^ 32 := by
    rw [← BitVec.toNat_inj]
    simp [IntOp.addi, BitVec.toNat_add]
  by_cases h : (x + o) % 2 ^ 32 = j % 2 ^ 32
  · rw [if_pos h, e.2 h]
    simp [IntOp.cmpi, FloatOps.uitofp]
  · rw [if_neg h]
    simp [IntOp.cmpi, FloatOps.uitofp]
    exact mt e.1 h

/-- A sum against a column of a selection matrix whose only one stands in row `k` is the summand at `k`. -/
theorem sum_pick {n : ℕ} (a : Fin n → EReal) (o j : ℕ) (k : Fin n)
    (h : ∀ x : Fin n, (x + o) % 2 ^ 32 = j % 2 ^ 32 ↔ (x : ℕ) = k) :
    ∑ x : Fin n, a x * FloatOps.uitofp (F := Ideal) FTy.f32 (IntOp.cmpi .eq (IntOp.addi (BitVec.ofNat 32 x) (BitVec.ofNat 32 o)) (BitVec.ofNat 32 j))
      = a k := by
  simp only [entry, h]
  rw [Finset.sum_eq_single k]
  · simp
  · intro x _ hx
    rw [if_neg (fun e => hx (Fin.ext e)), mul_zero]
  · simp

/-- A sum against a column of a selection matrix that holds no one is zero. -/
theorem sum_none {n : ℕ} (a : Fin n → EReal) (o j : ℕ)
    (h : ∀ x : Fin n, ¬ (x + o) % 2 ^ 32 = j % 2 ^ 32) :
    ∑ x : Fin n, a x * FloatOps.uitofp (F := Ideal) FTy.f32 (IntOp.cmpi .eq (IntOp.addi (BitVec.ofNat 32 x) (BitVec.ofNat 32 o)) (BitVec.ofNat 32 j))
      = 0 := by
  simp only [entry, h, if_false, mul_zero, Finset.sum_const_zero]

end Cert.Eye

end
-- ==== Proof.Entry.lean ====
module

public import proofs.«01_k».proof.Proof.Frame
public import proofs.«01_k».proof.Proof.Eye
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (c : Dev nD)

/-- Columns 0 to 31 of the packed state hold the hidden state. -/
theorem packedState_hidden (r : Fin 10000) (j : Fin 32) :
    (V m c main_v14 : FVec Ideal S10000x128 .f32) (ix2 r (⟨j, by omega⟩ : Fin 128))
      = (m ((c : Thread nD τ).loc main_arg3) : FVec Ideal S10000x32 .f32) (ix2 r j) := by
  unfold V V0
  after_reads_at
  rw [Eye.sum_pick _ 0 _ j (fun x => by have := x.2; have := j.2; omega),
    Eye.sum_none _ 32 _ (fun x => by have := x.2; have := j.2; omega), add_zero]

/-- Columns 32 to 63 of the packed state hold the cell state. -/
theorem packedState_cell (r : Fin 10000) (j : Fin 32) :
    (V m c main_v14 : FVec Ideal S10000x128 .f32) (ix2 r (⟨32 + j, by omega⟩ : Fin 128))
      = (m ((c : Thread nD τ).loc main_arg4) : FVec Ideal S10000x32 .f32) (ix2 r j) := by
  unfold V V0
  after_reads_at
  rw [Eye.sum_none _ 0 _ (fun x => by have := x.2; have := j.2; omega),
    Eye.sum_pick _ 32 _ j (fun x => by have := x.2; have := j.2; omega), zero_add]

/-- The bias rows the launch reads are the bias vectors among the arguments, entry for entry. -/
theorem bias_rows :
    (∀ j : Fin 32, (V m c main_v15 : FVec Ideal S1x32 .f32) (ix2 0 j)
      = (m ((c : Thread nD τ).loc main_arg6) : FVec Ideal S32 .f32) (ix1 j))
    ∧ (∀ j : Fin 32, (V m c main_v16 : FVec Ideal S1x32 .f32) (ix2 0 j)
      = (m ((c : Thread nD τ).loc main_arg8) : FVec Ideal S32 .f32) (ix1 j))
    ∧ (∀ j : Fin 32, (V m c main_v17 : FVec Ideal S1x32 .f32) (ix2 0 j)
      = (m ((c : Thread nD τ).loc main_arg12) : FVec Ideal S32 .f32) (ix1 j))
    ∧ (∀ j : Fin 32, (V m c main_v18 : FVec Ideal S1x32 .f32) (ix2 0 j)
      = (m ((c : Thread nD τ).loc main_arg14) : FVec Ideal S32 .f32) (ix1 j))
    ∧ (∀ j : Fin 32, (V m c main_v19 : FVec Ideal S1x32 .f32) (ix2 0 j)
      = (m ((c : Thread nD τ).loc main_arg18) : FVec Ideal S32 .f32) (ix1 j))
    ∧ (∀ j : Fin 32, (V m c main_v20 : FVec Ideal S1x32 .f32) (ix2 0 j)
      = (m ((c : Thread nD τ).loc main_arg20) : FVec Ideal S32 .f32) (ix1 j))
    ∧ (∀ j : Fin 32, (V m c main_v21 : FVec Ideal S1x32 .f32) (ix2 0 j)
      = (m ((c : Thread nD τ).loc main_arg23) : FVec Ideal S32 .f32) (ix1 j))
    ∧ (∀ j : Fin 32, (V m c main_v22 : FVec Ideal S1x32 .f32) (ix2 0 j)
      = (m ((c : Thread nD τ).loc main_arg25) : FVec Ideal S32 .f32) (ix1 j))
    ∧ (∀ j : Fin 9, (V m c main_v23 : FVec Ideal S1x9 .f32) (ix2 0 j)
      = (m ((c : Thread nD τ).loc main_arg29) : FVec Ideal S9 .f32) (ix1 j)) := by
  unfold V V0
  refine ⟨?_, ?_, ?_, ?_, ?_, ?_, ?_, ?_, ?_⟩
  all_goals
    intro j
    after_reads_at

end Cert.KernelIdeal.Hand

end
-- ==== Proof.Parameters.lean ====
/-
  THE PARAMETERS: the blocks of parameters the body reads at any point are the argument arrays', whole.
-/
module

public import proofs.«01_k».proof.Proof.Block
public import proofs.«01_k».proof.Proof.Entry

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (c : Dev nD)

/-- The cell's parameters as the kernel's argument arrays hold them. -/
def weights : Cell.Weights := Cell.Weights.ofArrays
  (m ((c.tc : Thread nD τ).loc main_arg5)) (m ((c.tc : Thread nD τ).loc main_arg6))
  (m ((c.tc : Thread nD τ).loc main_arg7)) (m ((c.tc : Thread nD τ).loc main_arg8))
  (m ((c.tc : Thread nD τ).loc main_arg9)) (m ((c.tc : Thread nD τ).loc main_arg10))
  (m ((c.tc : Thread nD τ).loc main_arg11)) (m ((c.tc : Thread nD τ).loc main_arg12))
  (m ((c.tc : Thread nD τ).loc main_arg13)) (m ((c.tc : Thread nD τ).loc main_arg14))
  (m ((c.tc : Thread nD τ).loc main_arg15)) (m ((c.tc : Thread nD τ).loc main_arg16))
  (m ((c.tc : Thread nD τ).loc main_arg17)) (m ((c.tc : Thread nD τ).loc main_arg18))
  (m ((c.tc : Thread nD τ).loc main_arg19)) (m ((c.tc : Thread nD τ).loc main_arg20))
  (m ((c.tc : Thread nD τ).loc main_arg21)) (m ((c.tc : Thread nD τ).loc main_arg22))
  (m ((c.tc : Thread nD τ).loc main_arg23)) (m ((c.tc : Thread nD τ).loc main_arg24))
  (m ((c.tc : Thread nD τ).loc main_arg25)) (m ((c.tc : Thread nD τ).loc main_arg26))
  (m ((c.tc : Thread nD τ).loc main_arg27)) (m ((c.tc : Thread nD τ).loc main_arg28))
  (m ((c.tc : Thread nD τ).loc main_arg29))

/-- Every window of parameters stays on its whole array. -/
theorem index_whole : ∀ t : Fin grid0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] := by
  decide +kernel

set_option maxHeartbeats 4000000 in
/-- The input blocks of parameters are the argument arrays' parameters. -/
theorem weights_block (t : Fin cfg0.N) :
    blockWeights (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) = weights m c := by
  unfold blockWeights weights Cell.Weights.ofArrays
  obtain ⟨h15, h16, h17, h18, h19, h20, h21, h22, h23⟩ := bias_rows m c
  simp only [← h15, ← h16, ← h17, ← h18, ← h19, ← h20, ← h21, ← h22, ← h23]
  clear h15 h16 h17 h18 h19 h20 h21 h22 h23
  congr 1
  all_goals try congr 1
  all_goals first
    | (funext k j; blk_ext [iblk, V, index_whole t]; done)
    | (funext j; blk_ext [iblk, index_whole t]; done)
    | (funext j; blk_ext [iblk, V, index_whole t]; done)

end Cert.KernelIdeal.Hand

end
-- ==== Proof.Array.lean ====
/-
  WHAT THE PIPELINE LEAVES IN ITS OUTPUT ARRAY: in every row the packed result (Block.lean) of that row of the arguments.
-/
module

public import proofs.«01_k».proof.Proof.Parameters

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (c : Dev nD)

/-- The packed result as an array. -/
def packedArray : FVec Ideal S10000x128 .f32 := fun i => packed (weights m c)
  (Cell.row (m ((c.tc : Thread nD τ).loc main_arg0)) (i 0)) (Cell.row (m ((c.tc : Thread nD τ).loc main_arg3)) (i 0))
  (Cell.row (m ((c.tc : Thread nD τ).loc main_arg4)) (i 0)) (i 1)

/-- Windows 0, 1 and 27 walk down the rows of their arrays. -/
theorem index_rows : ∀ t : Fin grid0.N, win0_0.index t = ![t.val, 0] ∧ win0_1.index t = ![t.val, 0] ∧ win0_27.index t = ![t.val, 0] := by
  decide +kernel

/-- The first input block holds rows of the first argument array. -/
theorem input_block (t : Fin cfg0.N) (r : Fin 2000) (k : Fin 128) (R : Fin 10000) (hR : (R : ℕ) = t.val * 2000 + r) :
    (iblk m c 0 t : FVec Ideal S2000x128 .f32) (ix2 r k) = Cell.row (m ((c : Thread nD τ).loc main_arg0)) R k := by
  unfold Cell.row
  blk_ext [iblk, V, index_rows t]

/-- The second input block holds rows of the packed state. -/
theorem state_block (t : Fin cfg0.N) (r : Fin 2000) (k : Fin 128) (R : Fin 10000) (hR : (R : ℕ) = t.val * 2000 + r) :
    (iblk m c 1 t : FVec Ideal S2000x128 .f32) (ix2 r k) = (V m c main_v14 : FVec Ideal S10000x128 .f32) (ix2 R k) := by
  blk_ext [iblk, index_rows t]

/-- The block the body leaves at point `t` is that block of the packed result. -/
theorem block_packed (t : Fin cfg0.N) (y : S2000x128.Idx) (i : S10000x128.Idx)
    (e0 : ((i 0 : Fin 10000) : ℕ) = t.val * 2000 + ((y 0 : Fin 2000) : ℕ)) (e1 : (i 1 : Fin 128) = (y 1 : Fin 128)) :
    out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) y
      = packedArray m c i := by
  obtain ⟨r, j, rfl⟩ : ∃ (r : Fin 2000) (j : Fin 128), y = ix2 r j := ⟨y 0, y 1, eq_ix2 y⟩
  rw [out_apply, weights_block]
  unfold packedArray
  rw [e1]
  congr 1
  · funext k; exact input_block m c t _ k _ e0
  · funext k; exact (state_block m c t _ _ _ e0).trans (packedState_hidden m c _ k)
  · funext k; exact (state_block m c t _ _ _ e0).trans (packedState_cell m c _ k)

/-- After the pipeline its output array is the packed result. -/
theorem array_packed : (dats m 0 c).arrAt 27 cfg0.N = packedArray m c := by
  refine (dats m 0 c).arrAt_eq_of_covers 27 _ (by decide +kernel) fun t hf y => ?_
  blk_simp
  rw [after0_27]
  have e0 : ((((win0_27.blk t).view.emb y) 0 : Fin 10000) : ℕ) = t.val * 2000 + ((y 0 : Fin 2000) : ℕ) := by
    blk_simp [index_rows t]
  have e1 : (((win0_27.blk t).view.emb y) 1 : Fin 128) = (y 1 : Fin 128) := by
    apply Fin.ext
    blk_simp [index_rows t]
  exact block_packed m c t y _ e0 e1

end Cert.KernelIdeal.Hand

end
-- ==== Proof.Results.lean ====
/-
  THE KERNEL'S RESULTS: the host lines after the pipeline pick the columns of the packed result apart, so the three results
  are the hidden state, the cell state and the read-out of every row of the arguments.
-/
module

public import proofs.«01_k».proof.Proof.Array

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (c : Dev nD)

/-- The new cell state as an array. -/
def cellArray : FVec Ideal S10000x32 .f32 := fun i => Cell.newCell (weights m c)
  (Cell.row (m ((c : Thread nD τ).loc main_arg0)) (i 0)) (Cell.row (m ((c : Thread nD τ).loc main_arg3)) (i 0))
  (Cell.row (m ((c : Thread nD τ).loc main_arg4)) (i 0)) (i 1)

/-- The new hidden state as an array. -/
def hiddenArray : FVec Ideal S10000x32 .f32 := fun i => Cell.newHidden (weights m c)
  (Cell.row (m ((c : Thread nD τ).loc main_arg0)) (i 0)) (Cell.row (m ((c : Thread nD τ).loc main_arg3)) (i 0))
  (Cell.row (m ((c : Thread nD τ).loc main_arg4)) (i 0)) (i 1)

/-- The read-out as an array. -/
def readOutArray : FVec Ideal S10000x9 .f32 := fun i => Cell.readOut (weights m c)
  (Cell.row (m ((c : Thread nD τ).loc main_arg0)) (i 0)) (Cell.row (m ((c : Thread nD τ).loc main_arg3)) (i 0))
  (Cell.row (m ((c : Thread nD τ).loc main_arg4)) (i 0)) (i 1)

/-- The pipeline's output array as the host lines after it find it. -/
theorem found_packed : Pipeline.withArrays spec0 c (V0 m c) (fun w => (dats m 0 c).arrAt w cfg0.N) (Proc.devRef .tc main_v24) = packedArray m c :=
  (Pipeline.withArrays_arr spec0 (by decide) c (V0 m c) _ 27).trans (array_packed m c)

/-- Columns 0 to 31 of a packed row are the hidden state. -/
theorem packed_hidden (w : Cell.Weights) (x : Fin 128 → EReal) (h c : Fin 32 → EReal) (j : Fin 32) (k : Fin 128) (hk : (k : ℕ) = j) :
    packed w x h c k = Cell.newHidden w x h c j := by
  unfold packed
  rw [dif_pos (by omega)]
  congr 1
  exact Fin.ext hk

/-- Columns 32 to 63 are the cell state. -/
theorem packed_cell (w : Cell.Weights) (x : Fin 128 → EReal) (h c : Fin 32 → EReal) (j : Fin 32) (k : Fin 128) (hk : (k : ℕ) = 32 + j) :
    packed w x h c k = Cell.newCell w x h c j := by
  unfold packed
  rw [dif_neg (by omega), dif_pos (by omega)]
  congr 1
  exact Fin.ext (by dsimp only; omega)

/-- Columns 64 to 72 are the read-out. -/
theorem packed_readOut (w : Cell.Weights) (x : Fin 128 → EReal) (h c : Fin 32 → EReal) (j : Fin 9) (k : Fin 128) (hk : (k : ℕ) = 64 + j) :
    packed w x h c k = Cell.readOut w x h c j := by
  unfold packed
  rw [dif_neg (by omega), dif_neg (by omega), dif_pos (by omega)]
  congr 1
  exact Fin.ext (by dsimp only; omega)

/-- The host lines pick the hidden state out of the packed result. -/
theorem tail_hidden : Pipeline.afterTail₀ cfgs (dats m) 0 (V0 m) [hostOps1] c main_v43 = hiddenArray m c := by
  funext i
  obtain ⟨r, j, rfl⟩ : ∃ (r : Fin 10000) (j : Fin 32), i = ix2 r j := ⟨i 0, i 1, eq_ix2 i⟩
  unfold Pipeline.afterTail₀
  after_reads_at
  rw [found_packed, Eye.sum_pick _ 0 _ ⟨j, by omega⟩ (fun x => by have := x.2; have := j.2; dsimp only; omega)]
  exact packed_hidden _ _ _ _ j _ rfl

/-- They pick the cell state. -/
theorem tail_cell : Pipeline.afterTail₀ cfgs (dats m) 0 (V0 m) [hostOps1] c main_v44 = cellArray m c := by
  funext i
  obtain ⟨r, j, rfl⟩ : ∃ (r : Fin 10000) (j : Fin 32), i = ix2 r j := ⟨i 0, i 1, eq_ix2 i⟩
  unfold Pipeline.afterTail₀
  after_reads_at
  rw [found_packed, Eye.sum_pick _ 4294967264 _ ⟨32 + j, by omega⟩ (fun x => by have := x.2; have := j.2; dsimp only; omega)]
  exact packed_cell _ _ _ _ j _ rfl

/-- They pick the read-out. -/
theorem tail_readOut : Pipeline.afterTail₀ cfgs (dats m) 0 (V0 m) [hostOps1] c main_v45 = readOutArray m c := by
  funext i
  obtain ⟨r, j, rfl⟩ : ∃ (r : Fin 10000) (j : Fin 9), i = ix2 r j := ⟨i 0, i 1, eq_ix2 i⟩
  unfold Pipeline.afterTail₀
  after_reads_at
  rw [found_packed, Eye.sum_pick _ 4294967232 _ ⟨64 + j, by omega⟩ (fun x => by have := x.2; have := j.2; dsimp only; omega)]
  exact packed_readOut _ _ _ _ j _ rfl

end Cert.KernelIdeal.Hand

end
-- ==== Proof.Reference.lean ====
/-
  WHAT THE REFERENCE COMPUTES: each of its three results, read at a row and a column, is the cell (Cell.lean) of that
  row of its arguments.
-/
module

public import proofs.«01_k».proof.Proof.Gen.ReferenceIdeal.Run
public import proofs.«01_k».proof.Proof.Cell
public import Idealize.ShloMosaic.Lib.Pointwise
public import Idealize.ShloMosaic.Lib.Tactic.CleanTypes
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ReferenceIdeal.Hand

open Cert.ReferenceIdeal Cert.ReferenceIdeal.Value

variable (m : (ℓ : Loc nD τ sig) → Buf (Elt Ideal) ℓ) (c : Dev nD)

/-- The cell's parameters as the reference's argument arrays hold them. -/
def weights : Cell.Weights := Cell.Weights.ofArrays
  (m ((c.tc : Thread nD τ).loc main_arg5)) (m ((c.tc : Thread nD τ).loc main_arg6))
  (m ((c.tc : Thread nD τ).loc main_arg7)) (m ((c.tc : Thread nD τ).loc main_arg8))
  (m ((c.tc : Thread nD τ).loc main_arg9)) (m ((c.tc : Thread nD τ).loc main_arg10))
  (m ((c.tc : Thread nD τ).loc main_arg11)) (m ((c.tc : Thread nD τ).loc main_arg12))
  (m ((c.tc : Thread nD τ).loc main_arg13)) (m ((c.tc : Thread nD τ).loc main_arg14))
  (m ((c.tc : Thread nD τ).loc main_arg15)) (m ((c.tc : Thread nD τ).loc main_arg16))
  (m ((c.tc : Thread nD τ).loc main_arg17)) (m ((c.tc : Thread nD τ).loc main_arg18))
  (m ((c.tc : Thread nD τ).loc main_arg19)) (m ((c.tc : Thread nD τ).loc main_arg20))
  (m ((c.tc : Thread nD τ).loc main_arg21))
  (m ((c.tc : Thread nD τ).loc main_arg22)) (m ((c.tc : Thread nD τ).loc main_arg23))
  (m ((c.tc : Thread nD τ).loc main_arg24)) (m ((c.tc : Thread nD τ).loc main_arg25))
  (m ((c.tc : Thread nD τ).loc main_arg26)) (m ((c.tc : Thread nD τ).loc main_arg27))
  (m ((c.tc : Thread nD τ).loc main_arg28)) (m ((c.tc : Thread nD τ).loc main_arg29))

/-- The new cell state as an array. -/
def cellArray : FVec Ideal S10000x32 .f32 := fun i => Cell.newCell (weights m c)
  (Cell.row (m ((c.tc : Thread nD τ).loc main_arg0)) (i 0)) (Cell.row (m ((c.tc : Thread nD τ).loc main_arg3)) (i 0))
  (Cell.row (m ((c.tc : Thread nD τ).loc main_arg4)) (i 0)) (i 1)

/-- The new hidden state as an array. -/
def hiddenArray : FVec Ideal S10000x32 .f32 := fun i => Cell.newHidden (weights m c)
  (Cell.row (m ((c.tc : Thread nD τ).loc main_arg0)) (i 0)) (Cell.row (m ((c.tc : Thread nD τ).loc main_arg3)) (i 0))
  (Cell.row (m ((c.tc : Thread nD τ).loc main_arg4)) (i 0)) (i 1)

/-- The read-out as an array. -/
def readOutArray : FVec Ideal S10000x9 .f32 := fun i => Cell.readOut (weights m c)
  (Cell.row (m ((c.tc : Thread nD τ).loc main_arg0)) (i 0)) (Cell.row (m ((c.tc : Thread nD τ).loc main_arg3)) (i 0))
  (Cell.row (m ((c.tc : Thread nD τ).loc main_arg4)) (i 0)) (i 1)

/-- The reference's second result is the new hidden state. -/
theorem res_hidden : res_main_v76 (F := Ideal) m c = hiddenArray m c := by
  funext i
  obtain ⟨r, j, rfl⟩ : ∃ (r : Fin 10000) (j : Fin 32), i = ix2 r j := ⟨i 0, i 1, eq_ix2 i⟩
  unfold res_main_v76
  clean_types
  pointwise
  rfl

/-- The reference's first result is the read-out. -/
theorem res_readOut : res_main_v81 (F := Ideal) m c = readOutArray m c := by
  funext i
  obtain ⟨r, j, rfl⟩ : ∃ (r : Fin 10000) (j : Fin 9), i = ix2 r j := ⟨i 0, i 1, eq_ix2 i⟩
  unfold res_main_v81
  clean_types
  pointwise
  rfl

/-- The reference's run: it leaves the read-out, the new hidden state and the new cell state in its three results. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v81) = readOutArray m c
      ∧ r.2.mem ((c.tc : Thread nD τ).loc main_v76) = hiddenArray m c
      ∧ r.2.mem ((c.tc : Thread nD τ).loc main_v54) = cellArray m c := by
  refine θ_run_mono (Value.run m ρ) fun r h c => ⟨(h c).1.trans (res_readOut m c), (h c).2.1.trans (res_hidden m c),
    (h c).2.2.1.trans ?_⟩
  funext i
  obtain ⟨r, j, rfl⟩ : ∃ (r : Fin 10000) (j : Fin 32), i = ix2 r j := ⟨i 0, i 1, eq_ix2 i⟩
  clean_types
  pointwise
  rfl

end Cert.ReferenceIdeal.Hand

end
-- ==== Proof.Equation.lean ====
/-
  THE EQUATION: from memories that agree on the arguments, the kernel's three result arrays and the reference's are equal, for
  both are the cell (Cell.lean) of every row.
-/
module

public import proofs.«01_k».proof.Proof.Results
public import proofs.«01_k».proof.Proof.Reference
public import proofs.«01_k».proof.Defs

@[expose] public section

set_option maxRecDepth 16384

noncomputable section

open Idealize.ShloMosaic Idealize.ShloMosaic.TcCoe Idealize.SL.Sem

namespace Cert.Equation

/-- After every execution the kernel's results are the read-out, the hidden and the cell state of every row. -/
theorem kernel_results (m : (ℓ : Loc KernelIdeal.nD KernelIdeal.τ KernelIdeal.sig) → Buf (Elt Ideal) ℓ) (r)
    (h : Pipeline.FramePost KernelIdeal.cfgs (KernelIdeal.Hand.dats m) 0
      (Pipeline.afterTail₀ KernelIdeal.cfgs (KernelIdeal.Hand.dats m) 0 (KernelIdeal.Hand.V0 m) [KernelIdeal.Gen.hostOps1]) r)
    (c : Dev KernelIdeal.nD) :
    r.2.mem ((c.tc : Thread KernelIdeal.nD KernelIdeal.τ).loc KernelIdeal.main_v45) = KernelIdeal.Hand.readOutArray m c
    ∧ r.2.mem ((c.tc : Thread KernelIdeal.nD KernelIdeal.τ).loc KernelIdeal.main_v43) = KernelIdeal.Hand.hiddenArray m c
    ∧ r.2.mem ((c.tc : Thread KernelIdeal.nD KernelIdeal.τ).loc KernelIdeal.main_v44) = KernelIdeal.Hand.cellArray m c :=
  ⟨((h c).2 _ (Pipeline.mem_restRefs_of _ (by decide) (by decide))).trans (KernelIdeal.Hand.tail_readOut m c),
    ((h c).2 _ (Pipeline.mem_restRefs_of _ (by decide) (by decide))).trans (KernelIdeal.Hand.tail_hidden m c),
    ((h c).2 _ (Pipeline.mem_restRefs_of _ (by decide) (by decide))).trans (KernelIdeal.Hand.tail_cell m c)⟩

/-- The kernel over the extended reals and the reference end with equal results, arguments unchanged. -/
theorem algebraic : Cert.algebraic_KernelIdeal_ReferenceIdeal (hKernelIdeal := KernelIdeal.Gen.facts)
    (hReferenceIdeal := ReferenceIdeal.Gen.facts) := by
  intro m g m' g' _ hagree
  refine ⟨KernelIdeal.Hand.readOutArray m, KernelIdeal.Hand.hiddenArray m, KernelIdeal.Hand.cellArray m, ?_, ?_⟩
  · refine (θ_run _ _ _).mono (fun r h c => ?_) (KernelIdeal.Hand.run_main m g)
    obtain ⟨hy, hh, hc⟩ := kernel_results m r h c
    refine ⟨hy, hh, hc, ?_⟩
    repeat' apply And.intro
    all_goals exact KernelIdeal.Hand.kept m r h c _ (by decide) (by decide) (by decide)
  · refine (θ_run _ _ _).mono (fun r h c => ?_)
      (θ_run_and (ReferenceIdeal.Hand.run m' g') (ReferenceIdeal.Value.run m' g'))
    obtain ⟨hy, hh, hc⟩ := h.1 c
    have hw : ReferenceIdeal.Hand.weights m' c = KernelIdeal.Hand.weights m c := by
      unfold ReferenceIdeal.Hand.weights KernelIdeal.Hand.weights
      simp only [hagree c]
    refine ⟨hy.trans ?_, hh.trans ?_, hc.trans ?_, (h.2 c).2.2.2⟩
    · unfold ReferenceIdeal.Hand.readOutArray KernelIdeal.Hand.readOutArray
      simp only [hw, hagree c]
    · unfold ReferenceIdeal.Hand.hiddenArray KernelIdeal.Hand.hiddenArray
      simp only [hw, hagree c]
    · unfold ReferenceIdeal.Hand.cellArray KernelIdeal.Hand.cellArray
      simp only [hw, hagree c]

end Cert.Equation

end
-- ==== Proof.lean ====
/-
  THE CERTIFICATE: the kernel's frame at the machine's numbers and over the extended reals, the reference's frame, the idealized
  program being the compiled one unchanged, and the kernel computing what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel.Hand.frame,
  fun m g _ => Cert.KernelIdeal.Hand.frame m g,
  fun m g _ => θ_run_mono (Cert.ReferenceIdeal.Value.run m g) fun r h =>
    ⟨fun c => (h c).2.2.2, Idealize.ShloMosaic.sem_eq_zero_of_no_sems (by decide) r.2⟩,
  trivial,
  Cert.Equation.algebraic⟩

end Cert.Proof

end
